-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Reference (m : (ℓ : Loc Cert.Reference.nD Cert.Reference.τ Cert.Reference.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def bitexact_Kernel_Reference [hKernel : Cert.Kernel.Facts] [hReference : Cert.Reference.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)) →
    ∃ (v0 : (c : Dev Cert.Kernel.nD) → Buf (Elt Bits) ((c.tc : Thread Cert.Kernel.nD Cert.Kernel.τ).loc Cert.Kernel.main_v0)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v0) = v0 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v4) = v0 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1))

def Claim : Prop :=
  ∃ (hKernel : Cert.Kernel.Facts) (hKernelIdeal : Cert.KernelIdeal.Facts) (hReferenceIdeal : Cert.ReferenceIdeal.Facts) (hReference : Cert.Reference.Facts),
    quiescent_Kernel (hKernel := hKernel)
    ∧ quiescent_KernelIdeal (hKernelIdeal := hKernelIdeal)
    ∧ quiescent_ReferenceIdeal (hReferenceIdeal := hReferenceIdeal)
    ∧ quiescent_Reference (hReference := hReference)
    ∧ preserves_Kernel_KernelIdeal
    ∧ algebraic_KernelIdeal_ReferenceIdeal (hKernelIdeal := hKernelIdeal) (hReferenceIdeal := hReferenceIdeal)
    ∧ bitexact_Kernel_Reference (hKernel := hKernel) (hReference := hReference)
-- ==== Kernel.lean ====
abbrev S4x8192x1024 : Shape := ⟨3, ![4, 8192, 1024]⟩
abbrev S8192x1024 : Shape := ⟨2, ![8192, 1024]⟩
abbrev S1x256x1024 : Shape := ⟨3, ![1, 256, 1024]⟩
abbrev S256x1024 : Shape := ⟨2, ![256, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4x8192x1024, .f32⟩
  | .hbm, ⟨1, _⟩ => ⟨S8192x1024, .f32⟩
  | .hbm, ⟨2, _⟩ => ⟨S4x8192x1024, .f32⟩
  | .local _ .vmem, ⟨0, _⟩ => ⟨S1x256x1024, .f32⟩
  | .local _ .vmem, ⟨1, _⟩ => ⟨S1x256x1024, .f32⟩
  | .local _ .vmem, ⟨2, _⟩ => ⟨S256x1024, .f32⟩
  | .local _ .vmem, ⟨3, _⟩ => ⟨S256x1024, .f32⟩
  | .local _ .vmem, ⟨4, _⟩ => ⟨S1x256x1024, .f32⟩
  | .local _ .vmem, ⟨5, _⟩ => ⟨S1x256x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![32, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference.lean ====
abbrev S4x8192x1024 : Shape := ⟨3, ![4, 8192, 1024]⟩
abbrev S8192x1024 : Shape := ⟨2, ![8192, 1024]⟩
abbrev S8192 : Shape := ⟨1, ![8192]⟩
abbrev S_ : Shape := ⟨0, ![]⟩
abbrev S8192x1 : Shape := ⟨2, ![8192, 1]⟩
abbrev S1 : Shape := ⟨1, ![1]⟩
abbrev S1x1 : Shape := ⟨2, ![1, 1]⟩
abbrev S1x8192x1024 : Shape := ⟨3, ![1, 8192, 1024]⟩

abbrev nBuf : Space → Nat
  | .hbm => 29
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S8192x1024, .f32⟩
  | .hbm, ⟨2, _⟩ => ⟨S8192, .i32⟩
  | .hbm, ⟨3, _⟩ => ⟨S_, .i32⟩
  | .hbm, ⟨4, _⟩ => ⟨S8192, .i32⟩
  | .hbm, ⟨5, _⟩ => ⟨S8192, .i1⟩
  | .hbm, ⟨6, _⟩ => ⟨S_, .i32⟩
  | .hbm, ⟨7, _⟩ => ⟨S8192, .i32⟩
  | .hbm, ⟨8, _⟩ => ⟨S8192, .i32⟩
  | .hbm, ⟨9, _⟩ => ⟨S8192, .i32⟩
  | .hbm, ⟨10, _⟩ => ⟨S8192x1, .i32⟩
  | .hbm, ⟨11, _⟩ => ⟨S1, .i32⟩
  | .hbm, ⟨12, _⟩ => ⟨S_, .i32⟩
  | .hbm, ⟨13, _⟩ => ⟨S8192x1, .i32⟩
  | .hbm, ⟨14, _⟩ => ⟨S8192x1, .i1⟩
  | .hbm, ⟨15, _⟩ => ⟨S1x1, .i32⟩
  | .hbm, ⟨16, _⟩ => ⟨S8192x1, .i32⟩
  | .hbm, ⟨17, _⟩ => ⟨S8192x1, .i1⟩
  | .hbm, ⟨18, _⟩ => ⟨S8192x1, .i1⟩
  | .hbm, ⟨19, _⟩ => ⟨S_, .i1⟩
  | .hbm, ⟨20, _⟩ => ⟨S8192, .i1⟩
  | .hbm, ⟨21, _⟩ => ⟨S8192x1024, .f32⟩
  | .hbm, ⟨22, _⟩ => ⟨S8192x1024, .i1⟩
  | .hbm, ⟨23, _⟩ => ⟨S_, .f32⟩
  | .hbm, ⟨24, _⟩ => ⟨S8192x1024, .f32⟩
  | .hbm, ⟨25, _⟩ => ⟨S8192x1024, .f32⟩
  | .hbm, ⟨26, _⟩ => ⟨S1x8192x1024, .f32⟩
  | .hbm, ⟨27, _⟩ => ⟨S4x8192x1024, .f32⟩
  | .hbm, ⟨28, _⟩ => ⟨S4x8192x1024, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_call0_cst : Ref sig .tc := ⟨.hbm, 23, rfl⟩
abbrev main_call0_v15 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩

abbrev nD : Nat := 1
abbrev τ : Topo := Topo.v7x

variable {F : FTy → Type} [FloatOps F]
-- ==== Proof.PosAdd.lean ====
/-
  What both programs compute, stated once: each of the four [8192, 1024] slabs of `x` plus the embedding table,
  position by position. Nothing here names a program.
-/
module

public import Idealize.ShloMosaic.Lib.ValueIdxCore

@[expose] public section

noncomputable section

namespace Cert.PosAdd

open Idealize.ShloMosaic Idealize.ShloMosaic.ValueIdx

variable {F : FTy → Type} [FloatOps F]

/-- The table's entry that is added at index `(b, s, d)` of the result: the one at `(s, d)`. -/
abbrev entry (i : (⟨3, ![4, 8192, 1024]⟩ : Shape).Idx) : (⟨2, ![8192, 1024]⟩ : Shape).Idx := ix2 (n0 := 8192) (n1 := 1024) (i 1) (i 2)

/-- The positional embedding added: at `(b, s, d)` the sum of `x` there and of the table at `(s, d)`. -/
def posAdd (x : FVec F ⟨3, ![4, 8192, 1024]⟩ .f32) (t : FVec F ⟨2, ![8192, 1024]⟩ .f32) : FVec F ⟨3, ![4, 8192, 1024]⟩ .f32 :=
  fun i => FloatOps.addf (x i) (t (entry i))

end Cert.PosAdd

end
-- ==== Proof.KernelIdealSum.lean ====
/-
  What the tiled kernel of the ideal program leaves in its result: the grid's 128 points write 128 blocks that tile the array, and each
  block is that block of the positional sum.
-/
module

public import proofs.«01_k».proof.Proof.PosAdd
public import proofs.«01_k».proof.Proof.Gen.KernelIdeal.Value
public import Idealize.ShloMosaic.Lib.Pipeline.ValueKit

@[expose] public section

noncomputable section

namespace Cert.KernelIdeal.Sum

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- The block of `x` moves with the block of the result. -/
theorem idx_x : ∀ t : Fin cfg0.N, win0_0.index t = win0_2.index t :=
  (by decide +kernel : ∀ t : Fin grid0.N, win0_0.index t = win0_2.index t)

/-- The block of the table moves with the last two axes of the result's block. -/
theorem idx_table : ∀ t : Fin cfg0.N, win0_1.index t 0 = win0_2.index t 1 ∧ win0_1.index t 1 = win0_2.index t 2 :=
  (by decide +kernel : ∀ t : Fin grid0.N, win0_1.index t 0 = win0_2.index t 1 ∧ win0_1.index t 1 = win0_2.index t 2)

/-- Where the body reads its block of `x` for index `y` of the result's block: at `y`. -/
theorem at_x (y : S1x256x1024.Idx) :
    (r0_0.idx (Value.ix2_0 y) 1).val = (y 1).val ∧ (r0_0.idx (Value.ix2_0 y) 2).val = (y 2).val :=
  ⟨by show 0 + 1 * (y 1).val = _; omega, by show 0 + 1 * (y 2).val = _; omega⟩

/-- Where it reads its block of the table: at the last two coordinates of `y`. -/
theorem at_table (y : S1x256x1024.Idx) :
    (r0_1.idx (Value.ix2_1 y) 0).val = (y 1).val ∧ (r0_1.idx (Value.ix2_1 y) 1).val = (y 2).val :=
  ⟨by show 0 + 1 * (y 1).val = _; omega, by show 0 + 1 * (y 2).val = _; omega⟩

/-- The positional sum of device `c`'s two argument arrays. -/
abbrev total (c : Dev nD) : Buf (Elt F) ((c : Thread nD τ).loc main_v0) :=
  PosAdd.posAdd (F := F) (m ((c : Thread nD τ).loc main_arg0)) (m ((c : Thread nD τ).loc main_arg1))

/-- After the run the result array is the positional sum. -/
theorem final_eq (c : Dev nD) : (dats m 0 c).arrAt 2 cfg0.N = total m c := by
  refine (dats m 0 c).arrAt_eq_of_covers 2 _ (by decide +kernel) fun t hf y => ?_
  blk_simp
  rw [after0_2]
  unfold out0_2
  rw [Value.canon2_eq]
  show FloatOps.addf (iblk m c 0 t _) (iblk m c 1 t _) = FloatOps.addf _ _
  blk_simp [iblk]
  have hx : (win0_0.blk t).view.emb (r0_0.idx (Value.ix2_0 y)) = (win0_2.blk t).view.emb y := by
    idx_bounds y
    blk_ext [idx_x t, at_x y]
  have ht : (win0_1.blk t).view.emb (r0_1.idx (Value.ix2_1 y)) = PosAdd.entry ((win0_2.blk t).view.emb y) := by
    idx_bounds y
    blk_ext [idx_table t, at_table y]
    · show _ = ((win0_2.blk t).view.emb y 1).val
      blk_simp
    · show _ = ((win0_2.blk t).view.emb y 2).val
      blk_simp
  rw [V_main_arg0, V_main_arg1, hx, ht]

/-- The run, read: the result array is the positional sum and the arguments are unchanged. -/
theorem run : θ_run defs (onTc (τ := τ) (main (F := F))) ⟨m, fun _ => 0, ρ⟩ fun r => ∀ c : Dev nD,
      r.2.mem ((c : Thread nD τ).loc main_v0) = total m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final_eq m c), (h c).2⟩) (Value.run_blocks m ρ)

end Cert.KernelIdeal.Sum

end
-- ==== Proof.TakeAll.lean ====
/-
  What the reference computes. jnp's `take` of the rows `0, 1, …, 8191` of a table wraps negative row numbers, gathers,
  and replaces the rows whose number is out of range by a fill value. No number here is negative or out of range, so
  the rows taken are the table itself. Nothing here names a program: every shape fact is an argument.
-/
module

public import proofs.«01_k».proof.Proof.PosAdd
public import Idealize.ShloMosaic.Lib.Routing.Ops
public import Idealize.ShloMosaic.Lib.WordCmp
public import Idealize.ShloMosaic.Lib.ReduceAll

@[expose] public section

noncomputable section

namespace Cert.TakeAll

open Idealize.ShloMosaic Idealize.ShloMosaic.ValueIdx

/-- The words of the row numbers. -/
abbrev rows : IVec ⟨1, ![8192]⟩ 32 := iotaInDim ⟨1, ![8192]⟩ 32 0

/-- A row number is not negative, so that wrapping leaves it as it is. -/
theorem wrap_rows (h : (⟨0, ![]⟩ : Shape).BroadcastsInDim ⟨1, ![8192]⟩ ![]) (n : IVec ⟨1, ![8192]⟩ 32) :
    select (cmpi .slt rows (broadcastInDim ⟨1, ![8192]⟩ ![] h (constantI ⟨0, ![]⟩ 32 0#32))) (addi rows n) rows = rows := by
  funext i
  have hi : (i 0).val < 8192 := (i 0).isLt
  have e : IntOp.cmpi .slt (BitVec.ofNat 32 (i 0).val) 0#32 = 0#1 := by
    rw [WordCmp.cmpi_slt_eq]
    rw [StableHlo.Predicate.toInt_ofNat_small _ (by omega), show (0#32).toInt = 0 from rfl, decide_eq_false (by omega)]
    rfl
  show (if IntOp.cmpi .slt (BitVec.ofNat 32 (i 0).val) 0#32 = 1#1 then _ else _) = _
  rw [e]; rfl

/-- The column of row numbers holds at `(p, 0)` the number `p`. -/
theorem col_apply (h : (⟨1, ![8192]⟩ : Shape).BroadcastsInDim ⟨2, ![8192, 1]⟩ ![0]) (i : (⟨2, ![8192, 1]⟩ : Shape).Idx) :
    broadcastInDim ⟨2, ![8192, 1]⟩ ![0] h rows i = BitVec.ofNat 32 (i 0).val := rfl

/-- Every row number is in range: 0 or more, and at most 8191. -/
theorem in_range (n : Nat) (hn : n < 8192) :
    IntOp.andi (IntOp.cmpi .sge (BitVec.ofNat 32 n) 0#32) (IntOp.cmpi .sle (BitVec.ofNat 32 n) 8191#32) = 1#1 := by
  have e := StableHlo.Predicate.toInt_ofNat_small n (by omega)
  have e1 : (8191#32).toInt = 8191 := by decide
  have e0 : (0#32).toInt = 0 := by decide
  rw [WordCmp.cmpi_sge_eq, WordCmp.cmpi_sle_eq, e, e1, e0, decide_eq_true (by omega), decide_eq_true (by omega)]
  rfl

variable {F : FTy → Type} [FloatOps F]

/-- The reference's composed term, with the shape facts as arguments, is the positional sum: the rows taken are the
    table's rows in order, no row is filled, and the two broadcasts lay the taken rows along each slab of `x`. -/
theorem take_add_eq (x : FVec F ⟨3, ![4, 8192, 1024]⟩ .f32) (t : FVec F ⟨2, ![8192, 1024]⟩ .f32)
    (hs : (⟨0, ![]⟩ : Shape).BroadcastsInDim ⟨1, ![8192]⟩ ![]) (hc : (⟨1, ![8192]⟩ : Shape).BroadcastsInDim ⟨2, ![8192, 1]⟩ ![0])
    (hz : (⟨0, ![]⟩ : Shape).BroadcastsInDim ⟨2, ![8192, 1]⟩ ![]) (h1 : (⟨1, ![1]⟩ : Shape).BroadcastsInDim ⟨2, ![1, 1]⟩ ![1])
    (h11 : (⟨2, ![1, 1]⟩ : Shape).BroadcastsInDim ⟨2, ![8192, 1]⟩ ![0, 1])
    (hm : (⟨1, ![8192]⟩ : Shape).BroadcastsInDim ⟨2, ![8192, 1024]⟩ ![0])
    (hf : (⟨0, ![]⟩ : Shape).BroadcastsInDim ⟨2, ![8192, 1024]⟩ ![])
    (hb : (⟨2, ![8192, 1024]⟩ : Shape).BroadcastsInDim ⟨3, ![1, 8192, 1024]⟩ ![1, 2])
    (hb' : (⟨3, ![1, 8192, 1024]⟩ : Shape).BroadcastsInDim ⟨3, ![4, 8192, 1024]⟩ ![0, 1, 2])
    (hr : (⟨2, ![8192, 1]⟩ : Shape).ReducesTo [1] ⟨1, ![8192]⟩) (hu : 0 < (⟨0, ![]⟩ : Shape).numel)
    (d : GatherDims ⟨2, ![8192, 1024]⟩ ⟨2, ![8192, 1]⟩ ⟨2, ![8192, 1024]⟩) (hoff : d.offsetDims = [1])
    (hcoll : d.collapsedSliceDims = [0]) (hob : d.operandBatchingDims = []) (hsim : d.startIndexMap = [0])
    (hivd : d.indexVectorDim = 1) (n : IVec ⟨1, ![8192]⟩ 32) (fill : FVec F ⟨0, ![]⟩ .f32) :
    addf x (broadcastInDim ⟨3, ![4, 8192, 1024]⟩ ![0, 1, 2] hb' (broadcastInDim ⟨3, ![1, 8192, 1024]⟩ ![1, 2] hb
      (select (broadcastInDim ⟨2, ![8192, 1024]⟩ ![0] hm (Host.reduce IntOp.andi
          (andi
            (cmpi .sge (broadcastInDim ⟨2, ![8192, 1]⟩ ![0] hc (select (cmpi .slt rows (broadcastInDim ⟨1, ![8192]⟩ ![] hs (constantI ⟨0, ![]⟩ 32 0#32))) (addi rows n) rows))
              (broadcastInDim ⟨2, ![8192, 1]⟩ ![] hz (constantI ⟨0, ![]⟩ 32 0#32)))
            (cmpi .sle (broadcastInDim ⟨2, ![8192, 1]⟩ ![0] hc (select (cmpi .slt rows (broadcastInDim ⟨1, ![8192]⟩ ![] hs (constantI ⟨0, ![]⟩ 32 0#32))) (addi rows n) rows))
              (broadcastInDim ⟨2, ![8192, 1]⟩ ![0, 1] h11 (broadcastInDim ⟨2, ![1, 1]⟩ ![1] h1 (constantI ⟨1, ![1]⟩ 32 8191#32)))))
          (constantI ⟨0, ![]⟩ 1 1#1) hr hu))
        (Host.gather d t (broadcastInDim ⟨2, ![8192, 1]⟩ ![0] hc (select (cmpi .slt rows (broadcastInDim ⟨1, ![8192]⟩ ![] hs (constantI ⟨0, ![]⟩ 32 0#32))) (addi rows n) rows)))
        (broadcastInDim ⟨2, ![8192, 1024]⟩ ![] hf fill))))
      = PosAdd.posAdd x t := by
  rw [wrap_rows]
  have hmask : Host.reduce IntOp.andi
      (andi (cmpi .sge (broadcastInDim ⟨2, ![8192, 1]⟩ ![0] hc rows) (broadcastInDim ⟨2, ![8192, 1]⟩ ![] hz (constantI ⟨0, ![]⟩ 32 0#32)))
        (cmpi .sle (broadcastInDim ⟨2, ![8192, 1]⟩ ![0] hc rows)
          (broadcastInDim ⟨2, ![8192, 1]⟩ ![0, 1] h11 (broadcastInDim ⟨2, ![1, 1]⟩ ![1] h1 (constantI ⟨1, ![1]⟩ 32 8191#32)))))
      (constantI ⟨0, ![]⟩ 1 1#1) hr hu = fun _ => 1#1 :=
    funext fun j => Host.reduce_andi_one _ _ _ _ _ rfl fun i => in_range (i 0).val (i 0).isLt
  rw [hmask]
  have hg : ∀ (p : Fin 8192) (q : Fin 1024), Host.gather d t (broadcastInDim ⟨2, ![8192, 1]⟩ ![0] hc rows) (ix2 p q) = t (ix2 p q) :=
    fun p q => Routing.gather_row d hoff hcoll hob hsim hivd t _ p q p rfl (by decide)
  funext i
  show FloatOps.addf (x i) (Host.gather d t (broadcastInDim ⟨2, ![8192, 1]⟩ ![0] hc rows) _) = FloatOps.addf (x i) (t (PosAdd.entry i))
  rw [show t (PosAdd.entry i) = _ from (hg (i 1) (i 2)).symm]
  refine congrArg (fun k => FloatOps.addf (x i) (Host.gather d t _ k)) (funext fun a => ?_)
  match a with
  | ⟨0, _⟩ => rfl
  | ⟨1, _⟩ => rfl

end Cert.TakeAll

end
-- ==== Proof.ReferenceSum.lean ====
/-
  What the reference leaves in its result: the positional sum of its two arguments.
-/
module

public import proofs.«01_k».proof.Proof.TakeAll
public import proofs.«01_k».proof.Proof.Gen.Reference.Run

@[expose] public section

noncomputable section

namespace Cert.Reference.Sum

open Cert.Reference Cert.Reference.Gen Idealize.ShloMosaic Idealize.ShloMosaic.TcCoe Idealize.SL.Sem

variable {F : FTy → Type} [FloatOps F]
variable (m : (ℓ : Loc nD τ sig) → Buf (Elt F) ℓ) (ρ : Dev nD → PrngReg)

/-- The positional sum of device `c`'s two argument arrays. -/
abbrev total (c : Dev nD) : Buf (Elt F) ((c : Thread nD τ).loc main_v4) :=
  PosAdd.posAdd (F := F) (m ((c : Thread nD τ).loc main_arg0)) (m ((c : Thread nD τ).loc main_arg1))

/-- The run, read: the result array is the positional sum and the arguments are unchanged. -/
theorem run : θ_run defs (onTc (τ := τ) (main (F := F))) ⟨m, fun _ => 0, ρ⟩ fun r => ∀ c : Dev nD,
      r.2.mem ((c : Thread nD τ).loc main_v4) = total m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (TakeAll.take_add_eq _ _ _ _ _ _ _ _ _ _ _ _ _ _ rfl rfl rfl rfl rfl _ _), (h c).2⟩)
    (Value.run m ρ)

end Cert.Reference.Sum

end
-- ==== Proof.ReferenceIdealSum.lean ====
/-
  What the reference, read over the extended reals, leaves in its result: the positional sum of its two arguments.
-/
module

public import proofs.«01_k».proof.Proof.TakeAll
public import proofs.«01_k».proof.Proof.Gen.ReferenceIdeal.Run

@[expose] public section

noncomputable section

namespace Cert.ReferenceIdeal.Sum

open Cert.ReferenceIdeal Cert.ReferenceIdeal.Gen Idealize.ShloMosaic Idealize.ShloMosaic.TcCoe Idealize.SL.Sem

variable {F : FTy → Type} [FloatOps F]
variable (m : (ℓ : Loc nD τ sig) → Buf (Elt F) ℓ) (ρ : Dev nD → PrngReg)

/-- The positional sum of device `c`'s two argument arrays. -/
abbrev total (c : Dev nD) : Buf (Elt F) ((c : Thread nD τ).loc main_v4) :=
  PosAdd.posAdd (F := F) (m ((c : Thread nD τ).loc main_arg0)) (m ((c : Thread nD τ).loc main_arg1))

/-- The run, read: the result array is the positional sum and the arguments are unchanged. -/
theorem run : θ_run defs (onTc (τ := τ) (main (F := F))) ⟨m, fun _ => 0, ρ⟩ fun r => ∀ c : Dev nD,
      r.2.mem ((c : Thread nD τ).loc main_v4) = total m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (TakeAll.take_add_eq _ _ _ _ _ _ _ _ _ _ _ _ _ _ rfl rfl rfl rfl rfl _ _), (h c).2⟩)
    (Value.run m ρ)

end Cert.ReferenceIdeal.Sum

end
-- ==== Proof.lean ====
/-
  The claims, assembled. The frames of the two kernels are the generated ones; the references' frames, the algebraic
  claim and the bit-exact one are read off the four runs (KernelSum, KernelIdealSum, ReferenceSum, ReferenceIdealSum),
  each of which ends with the same function of its arguments, `PosAdd.posAdd`, in its result.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Reference
public import proofs.«01_k».proof.Proof.Gen.Kernel.Value
public import proofs.«01_k».proof.Proof.Gen.KernelIdeal.Value
public import proofs.«01_k».proof.Proof.Gen.Reference.Run
public import proofs.«01_k».proof.Proof.Gen.ReferenceIdeal.Run
public import proofs.«01_k».proof.Proof.KernelSum
public import proofs.«01_k».proof.Proof.KernelIdealSum
public import proofs.«01_k».proof.Proof.ReferenceSum
public import proofs.«01_k».proof.Proof.ReferenceIdealSum
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The reference keeps its arguments, and it declares no semaphore. -/
theorem frame_reference : Cert.quiescent_Reference := fun m ρ _ =>
  (θ_run Cert.Reference.defs _ _).mono
    (fun r h => ⟨fun c => (h c).2, sem_eq_zero_of_no_sems (by decide) r.2⟩)
    (Cert.Reference.Sum.run (F := Bits) m ρ)

/-- So does the ideal reference. -/
theorem frame_reference_ideal : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Sum.run (F := Ideal) m ρ)

/-- Over the extended reals the kernel and the reference both end with the positional sum of the same arguments. -/
theorem algebraic : Cert.algebraic_KernelIdeal_ReferenceIdeal := by
  intro m ρ m' ρ' _ hagree
  refine ⟨fun c => Cert.KernelIdeal.Sum.total m c, Cert.KernelIdeal.Sum.run (F := Ideal) m ρ, ?_⟩
  refine (θ_run Cert.ReferenceIdeal.defs _ _).mono (fun _ h c => ⟨(h c).1.trans ?_, (h c).2⟩)
    (Cert.ReferenceIdeal.Sum.run (F := Ideal) m' ρ')
  exact congrArg₂ PosAdd.posAdd (hagree c).1 (hagree c).2

/-- On float words too: both programs add the same two words at each index, by the same operation. -/
theorem bitexact : Cert.bitexact_Kernel_Reference := by
  intro m ρ m' ρ' _ hagree
  refine ⟨fun c => Cert.Kernel.Sum.total m c, Cert.Kernel.Sum.run (F := Bits) m ρ, ?_⟩
  refine (θ_run Cert.Reference.defs _ _).mono (fun _ h c => ⟨(h c).1.trans ?_, (h c).2⟩)
    (Cert.Reference.Sum.run (F := Bits) m' ρ')
  exact congrArg₂ PosAdd.posAdd (hagree c).1 (hagree c).2

/-- All the claims. -/
theorem claim : Cert.Claim :=
  ⟨Cert.Kernel.Gen.facts, Cert.KernelIdeal.Gen.facts, Cert.ReferenceIdeal.Gen.facts, Cert.Reference.Gen.facts,
    fun m ρ _ => Cert.Kernel.Gen.frame m ρ, fun m ρ _ => Cert.KernelIdeal.Gen.frame m ρ, frame_reference_ideal,
    frame_reference, trivial, algebraic, bitexact⟩

end Cert.Proof

end
